-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096 : Shape := ⟨1, ![4096]⟩
abbrev S4096x1 : Shape := ⟨2, ![4096, 1]⟩
abbrev S1x4096 : Shape := ⟨2, ![1, 4096]⟩
abbrev S4x1x1 : Shape := ⟨3, ![4, 1, 1]⟩
abbrev S_ : Shape := ⟨0, ![]⟩
abbrev S1024x128 : Shape := ⟨2, ![1024, 128]⟩
abbrev S1x1024 : Shape := ⟨2, ![1, 1024]⟩
abbrev S1x1x1 : Shape := ⟨3, ![1, 1, 1]⟩
abbrev S4096x1024 : Shape := ⟨2, ![4096, 1024]⟩
abbrev S8x1024 : Shape := ⟨2, ![8, 1024]⟩
abbrev S8x1 : Shape := ⟨2, ![8, 1]⟩
abbrev S1x8x1024 : Shape := ⟨3, ![1, 8, 1024]⟩
abbrev S1 : Shape := ⟨1, ![1]⟩

abbrev nBuf : Space → Nat
  | .hbm => 11
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S4096x128, .f32⟩
  | .hbm, ⟨3, _⟩ => ⟨S4096, .i32⟩
  | .hbm, ⟨4, _⟩ => ⟨S4096x1, .i32⟩
  | .hbm, ⟨5, _⟩ => ⟨S1x4096, .i32⟩
  | .hbm, ⟨6, _⟩ => ⟨S4x1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S4096x128, .f32⟩
  | .local _ .vmem, ⟨1, _⟩ => ⟨S4096x1, .i32⟩
  | .local _ .vmem, ⟨2, _⟩ => ⟨S1024x128, .f32⟩
  | .local _ .vmem, ⟨3, _⟩ => ⟨S1024x128, .f32⟩
  | .local _ .vmem, ⟨4, _⟩ => ⟨S1x1024, .i32⟩
  | .local _ .vmem, ⟨5, _⟩ => ⟨S1x1024, .i32⟩
  | .local _ .vmem, ⟨6, _⟩ => ⟨S1x1x1, .f32⟩
  | .local _ .vmem, ⟨7, _⟩ => ⟨S1x1x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_cst_0 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x128 : Shape := ⟨2, ![4096, 128]⟩
abbrev S4096 : Shape := ⟨1, ![4096]⟩
abbrev S128x4096 : Shape := ⟨2, ![128, 4096]⟩
abbrev S4096x4096 : Shape := ⟨2, ![4096, 4096]⟩
abbrev S4096x1 : Shape := ⟨2, ![4096, 1]⟩
abbrev S1x4096 : Shape := ⟨2, ![1, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S4096x128, .f32⟩
  | .hbm, ⟨3, _⟩ => ⟨S4096, .i32⟩
  | .hbm, ⟨4, _⟩ => ⟨S128x4096, .f32⟩
  | .hbm, ⟨5, _⟩ => ⟨S4096x4096, .f32⟩
  | .hbm, ⟨6, _⟩ => ⟨S4096x1, .i32⟩
  | .hbm, ⟨7, _⟩ => ⟨S1x4096, .i32⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x4096, .f32⟩
  | .hbm, ⟨15, _⟩ => ⟨S4096x4096, .i1⟩
  | .hbm, ⟨16, _⟩ => ⟨S4096x4096, .i1⟩
  | .hbm, ⟨17, _⟩ => ⟨S4096x4096, .i1⟩
  | .hbm, ⟨18, _⟩ => ⟨S_, .f32⟩
  | .hbm, ⟨19, _⟩ => ⟨S4096x4096, .f32⟩
  | .hbm, ⟨20, _⟩ => ⟨S4096x4096, .i1⟩
  | .hbm, ⟨21, _⟩ => ⟨S4096x4096, .i1⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Proof.Step.lean ====
/- One step of the kernel's body: eight rows of the similarity matrix against the block's columns, added to the running
   8 × 1024 accumulator. What one step adds at one place, and the same step written with the body's own operations. -/
module

public import proofs.«01_k».proof.Proof.Gen.KernelIdeal.Skeleton
public import Idealize.ShloMosaic.Lib.Pointwise

@[expose] public section

noncomputable section

namespace Cert.Loss

open Idealize.ShloMosaic Cert.KernelIdeal Cert.KernelIdeal.Gen

/-- The extended reals that two of the program's constants denote. -/
abbrev eps : EReal := Ideal.ofBits .f32 0x3727C5AC#32
abbrev half : EReal := Ideal.ofBits .f32 0x3F000000#32

/-- What one pair of embeddings adds to the loss as the kernel computes it: with equal labels `1 - s` where that exceeds
    `eps`, with different labels the similarity `s` where that exceeds `1/2`, and nothing elsewhere. -/
def cell (l l' : BitVec 32) (s : EReal) : EReal :=
  if l = l' then (if eps < 1 - s then 1 - s else 0) else (if half < s then s else 0)

/-- One step of the body in its own operations: the accumulator `acc`, eight rows `s` of the similarity matrix, the
    labels `t` of those rows and the labels `u` of the columns. -/
def step (acc s : FVec Ideal S8x1024 .f32) (t : IVec S8x1 32) (u : IVec S1x1024 32) : FVec Ideal S8x1024 .f32 :=
  have same : IVec S8x1024 1 := cmpi .eq (broadcastTo S8x1024 t broadcasts_S8x1_S8x1024) (broadcastTo S8x1024 u broadcasts_S1x1024_S8x1024)
  have v : FVec Ideal S8x1024 .f32 := select same (subf (broadcast S8x1024 (Scalar.ofBits .f32 0x3F800000#32)) s) s
  have thr : FVec Ideal S8x1024 .f32 := select same (broadcast S8x1024 (Scalar.ofBits .f32 0x3727C5AC#32)) (broadcast S8x1024 (Scalar.ofBits .f32 0x3F000000#32))
  select (cmpf .ogt v thr) (addf acc v) acc

/-- Equality of two words is the bit one exactly where they are equal. -/
theorem cmpi_eq_ite (a b : BitVec 32) : IntOp.cmpi .eq a b = if a = b then 1#1 else 0#1 := by
  by_cases h : a = b
  · subst h; simp [IntOp.cmpi]
  · have e : (a == b) = false := by simpa using h
    simp [IntOp.cmpi, h, e]

/-- A step adds at each place what the pair there adds to the loss. -/
theorem step_apply (acc s : FVec Ideal S8x1024 .f32) (t : IVec S8x1 32) (u : IVec S1x1024 32) (r : Fin 8) (c : Fin 1024) :
    step acc s t u (ix2 r c) = acc (ix2 r c) + cell (t (ix2 r 0)) (u (ix2 0 c)) (s (ix2 r c)) := by
  pointwise [step]
  simp only [cmpi_eq_ite, cell, Scalar.select]
  by_cases h : t (ix2 r 0) = u (ix2 0 c) <;> simp [h] <;> split <;> simp

end Cert.Loss

end
-- ==== Proof.Fold.lean ====
/- The 512 steps of the body as one sum. After `n` steps the accumulator holds, at row `r` and column `c`, the sum of what
   the pairs (row `8 k + r`, column `c`), `k < n`, add to the loss; the printed body takes its steps three at a time. -/
module

public import proofs.«01_k».proof.Proof.Step
public import proofs.«01_k».proof.Proof.Gen.KernelIdeal.Frame

@[expose] public section

noncomputable section

namespace Cert.Loss

open Idealize.ShloMosaic Cert.KernelIdeal Cert.KernelIdeal.Gen

/-- What row `i` of the similarity matrix `sim` adds to the loss at column `c`, from the rows' labels `x` and the columns'
    labels `u` (nothing past the last row). -/
def entry (sim : FVec Ideal S4096x1024 .f32) (u : IVec S1x1024 32) (x : Vec Ideal S4096x1 .i32) (i : ℕ) (c : Fin 1024) : EReal :=
  if h : i < 4096 then cell (x (ix2 ⟨i, h⟩ 0)) (u (ix2 0 c)) (sim (ix2 ⟨i, h⟩ c)) else 0

/-- The accumulator `acc` holds the sum of the first `n` steps. -/
def Holds (sim : FVec Ideal S4096x1024 .f32) (u : IVec S1x1024 32) (x : Vec Ideal S4096x1 .i32) (n : ℕ) (acc : FVec Ideal S8x1024 .f32) : Prop :=
  ∀ (r : Fin 8) (c : Fin 1024), acc (ix2 r c) = ∑ k ∈ Finset.range n, entry sim u x (8 * k + r.val) c

/-- The eight rows of the similarity matrix that step `n` takes, and the eight labels of those rows as they are loaded. -/
abbrev rows (sim : FVec Ideal S4096x1024 .f32) (n : ℕ) (h : S4096x1024.Slices ![8 * n, 0] S8x1024) : FVec Ideal S8x1024 .f32 :=
  extractStridedSlice S8x1024 ![8 * n, 0] sim h
abbrev labels (x : Vec Ideal S4096x1 .i32) (n : ℕ) (h : ∀ a, (![8 * n, 0] : Fin 2 → ℕ) a + S8x1.size a ≤ S4096x1.size a) : IVec S8x1 32 :=
  shapeCast S8x1 (View.ld x (Rect.unit (s := S4096x1) ![8 * n, 0] S8x1.size h)) shapeCasts_S8x1_S8x1

/-- One more step adds the next term of the sum. -/
theorem Holds.step {sim : FVec Ideal S4096x1024 .f32} {u : IVec S1x1024 32} {x : Vec Ideal S4096x1 .i32} {n : ℕ} {acc : FVec Ideal S8x1024 .f32}
    (h : Holds sim u x n acc) (hs) (hl) : Holds sim u x (n + 1) (Loss.step acc (rows sim n hs) (labels x n hl) u) := by
  intro r c
  have hn : 8 * n + 8 ≤ 4096 := hl 0
  have hi : 8 * n + r.val < 4096 := by omega
  rw [step_apply, h r c, Finset.sum_range_succ, entry, dif_pos hi]
  congr 1
  pointwise

/-- Three more steps, as the body takes them. -/
theorem Holds.three {sim : FVec Ideal S4096x1024 .f32} {u : IVec S1x1024 32} {x : Vec Ideal S4096x1 .i32} {n : ℕ} {acc : FVec Ideal S8x1024 .f32}
    (hs hs' hs'' hl hl' hl'') (h : Holds sim u x n acc) :
    Holds sim u x (n + 3) (Loss.step (Loss.step (Loss.step acc (rows sim n hs) (labels x n hl) u) (rows sim (n + 1) hs') (labels x (n + 1) hl') u)
      (rows sim (n + 2) hs'') (labels x (n + 2) hl'') u) :=
  ((h.step hs hl).step hs' hl').step hs'' hl''

end Cert.Loss

end
-- ==== Proof.Block.lean ====
/- What one grid point computes: the loss of all rows against its block of 1024 columns. The printed body is read as 512
   steps by the lemmas of Fold.lean, and its last sum over the accumulator as a sum over rows and columns. -/
module

public import proofs.«01_k».proof.Proof.Fold
public import Idealize.ShloMosaic.Lib.Pipeline.Value

@[expose] public section

set_option maxRecDepth 16384

noncomputable section

namespace Cert.Loss

open Idealize.ShloMosaic Cert.KernelIdeal Cert.KernelIdeal.Gen

/-- The body's last value from the accumulator: the sum of its elements. -/
def total (acc : FVec Ideal S8x1024 .f32) : EReal :=
  extractAt ![0, 0, 0] (shapeCast S1x1x1 (multiReduction .add [1, 2] S1 (shapeCast S1x8x1024 acc shapeCasts_S8x1024_S1x8x1024)
    0x00000000#32 reduces_S1x8x1024_S1 (.inl rfl) rfl : FVec Ideal S1 .f32) shapeCasts_S1_S1x1x1) inpos_S1x1x1_p0_0_0

/-- It is the sum over the eight rows and the 1024 columns. -/
theorem total_eq (acc : FVec Ideal S8x1024 .f32) : total acc = ∑ r : Fin 8, ∑ c : Fin 1024, acc (ix2 r c) := by
  unfold total
  pointwise

/-- The accumulator starts at zero, which is the sum of no step. -/
theorem holds_zero (sim : FVec Ideal S4096x1024 .f32) (u : IVec S1x1024 32) (x : Vec Ideal S4096x1 .i32) :
    Holds sim u x 0 (broadcast S8x1024 (Scalar.ofBits (F := Ideal) .f32 0x00000000#32)) := by
  intro r c
  pointwise
  simp

/-- The body's last three steps and its sum over the accumulator: all entries of the rows' similarities. -/
theorem Holds.last {sim : FVec Ideal S4096x1024 .f32} {u : IVec S1x1024 32} {x : Vec Ideal S4096x1 .i32} {acc : FVec Ideal S8x1024 .f32}
    (hs hs' hs'' hl hl' hl'') (h : Holds sim u x 509 acc) :
    total (Loss.step (Loss.step (Loss.step acc (rows sim 509 hs) (labels x 509 hl) u) (rows sim 510 hs') (labels x 510 hl') u)
      (rows sim 511 hs'') (labels x 511 hl'') u)
      = ∑ r : Fin 8, ∑ c : Fin 1024, ∑ k ∈ Finset.range 512, entry sim u x (8 * k + r.val) c :=
  (total_eq _).trans (Finset.sum_congr rfl fun r _ => Finset.sum_congr rfl fun c _ =>
    Holds.three hs hs' hs'' hl hl' hl'' h r c)

/-- What the printed body leaves in its output element: the sum over the accumulator's places of the entries of the 512
    rows that were added there. -/
theorem out_eq (x0 : Vec Ideal S4096x128 .f32) (x1 : Vec Ideal S4096x1 .i32) (x2 : Vec Ideal S1024x128 .f32) (x3 : Vec Ideal S1x1024 .i32) (i : S1x1x1.Idx) :
    out0_4 x0 x1 x2 x3 i
      = ∑ r : Fin 8, ∑ c : Fin 1024, ∑ k ∈ Finset.range 512, entry (k0_pay515 x0 x1 x2 x3) (k0_pay516 x0 x1 x2 x3) x1 (8 * k + r.val) c := by
  unfold out0_4
  rw [View.canon_unit_zero (by funext a; fin_cases a <;> rfl)]
  refine Holds.last (by decide) (by decide) (by decide) (by decide) (by decide) (by decide) ?_
  iterate 169 refine Holds.three (by decide) (by decide) (by decide) (by decide) (by decide) (by decide) ?_
  exact Holds.step (Holds.step (holds_zero _ _ _) (by decide) (by decide)) (by decide) (by decide)

end Cert.Loss

end
-- ==== Proof.BlockValue.lean ====
/- What one grid point computes, as mathematics: the sum over all 4096 rows and the block's 1024 columns of what the pair
   adds to the loss, its similarity being the inner product of the two embeddings. -/
module

public import proofs.«01_k».proof.Proof.Block

@[expose] public section

set_option maxRecDepth 16384

noncomputable section

namespace Cert.Loss

open Idealize.ShloMosaic Cert.KernelIdeal Cert.KernelIdeal.Gen

/-- The similarity matrix of a block at row `i` and column `c` is the inner product of the two embeddings. -/
theorem sim_apply (x0 : Vec Ideal S4096x128 .f32) (x1 : Vec Ideal S4096x1 .i32) (x2 : Vec Ideal S1024x128 .f32) (x3 : Vec Ideal S1x1024 .i32)
    (i : Fin 4096) (c : Fin 1024) : k0_pay515 x0 x1 x2 x3 (ix2 i c) = ∑ d : Fin 128, x0 (ix2 i d) * x2 (ix2 c d) := by
  unfold k0_pay515
  rw [View.ld_unit_zero (S := S4096x128) (by funext a; fin_cases a <;> rfl), View.ld_unit_zero (S := S1024x128) (by funext a; fin_cases a <;> rfl)]
  pointwise [k0_pay2]

/-- The columns' labels are loaded as they stand. -/
theorem cols_apply (x0 : Vec Ideal S4096x128 .f32) (x1 : Vec Ideal S4096x1 .i32) (x2 : Vec Ideal S1024x128 .f32) (x3 : Vec Ideal S1x1024 .i32)
    (c : Fin 1024) : k0_pay516 x0 x1 x2 x3 (ix2 0 c) = x3 (ix2 0 c) := by
  unfold k0_pay516
  rw [View.ld_unit_zero (S := S1x1024) (by funext a; fin_cases a <;> rfl)]
  pointwise [k0_pay3]

/-- A sum over 4096 rows, taken as eight rows of each of 512 steps. -/
theorem sum_rows (f : ℕ → EReal) : ∑ r : Fin 8, ∑ k ∈ Finset.range 512, f (8 * k + r.val) = ∑ i : Fin 4096, f i.val := by
  rw [Finset.sum_comm, Finset.sum_range fun k => ∑ r : Fin 8, f (8 * k + r.val), ← Fintype.sum_prod_type',
    ← (finProdFinEquiv (m := 512) (n := 8)).sum_comp fun i : Fin (512 * 8) => f i.val]
  exact Finset.sum_congr rfl fun p _ => congrArg f (by rw [finProdFinEquiv_apply_val]; omega)

/-- One grid point's output element is the loss of all rows against the point's columns. -/
theorem out_value (x0 : Vec Ideal S4096x128 .f32) (x1 : Vec Ideal S4096x1 .i32) (x2 : Vec Ideal S1024x128 .f32) (x3 : Vec Ideal S1x1024 .i32) (j : S1x1x1.Idx) :
    out0_4 x0 x1 x2 x3 j
      = ∑ c : Fin 1024, ∑ i : Fin 4096, cell (x1 (ix2 i 0)) (x3 (ix2 0 c)) (∑ d : Fin 128, x0 (ix2 i d) * x2 (ix2 c d)) := by
  rw [out_eq, Finset.sum_comm]
  refine Finset.sum_congr rfl fun c _ => ?_
  rw [sum_rows fun n => entry (k0_pay515 x0 x1 x2 x3) (k0_pay516 x0 x1 x2 x3) x1 n c]
  refine Finset.sum_congr rfl fun i _ => ?_
  rw [entry, dif_pos i.isLt, sim_apply, cols_apply]

end Cert.Loss

end
-- ==== Proof.Loss.lean ====
/- The loss as a formula over the argument arrays: what the kernel's result and the reference's are both shown to be. -/
module

public import proofs.«01_k».proof.Proof.Step

@[expose] public section

noncomputable section

namespace Cert.Loss

open Idealize.ShloMosaic Cert.KernelIdeal

variable (A : FVec Ideal S4096x128 .f32) (la : IVec S4096 32) (B : FVec Ideal S4096x128 .f32) (lb : IVec S4096 32)

/-- What the pair of row `i` and column `j` adds to the loss, from the two sets of embeddings and their labels. -/
def pair (i j : Fin 4096) : EReal :=
  cell (la (ix1 i)) (lb (ix1 j)) (∑ d : Fin 128, A (ix2 i d) * B (ix2 j d))

/-- The loss: the terms of all pairs added up, over the constant of the word `0x45800000`, the number of rows. -/
def loss : EReal :=
  Ideal.div (∑ j : Fin 4096, ∑ i : Fin 4096, pair A la B lb i j) (Ideal.ofBits .f32 0x45800000#32)

end Cert.Loss

end
-- ==== Proof.Array.lean ====
/- What the kernel's array of partial sums holds after its grid: element `b` is the loss of all rows against the columns
   `1024 b … 1024 b + 1023`, as a function of the argument arrays. -/
module

public import proofs.«01_k».proof.Proof.BlockValue
public import proofs.«01_k».proof.Proof.Loss

@[expose] public section

set_option maxRecDepth 16384

noncomputable section

namespace Cert.Loss

open Idealize.ShloMosaic Idealize.ShloMosaic.TcCoe Cert.KernelIdeal Cert.KernelIdeal.Gen

/-- Column `c` of block `b`. -/
def col (b : Fin 4) (c : Fin 1024) : Fin 4096 := ⟨b.val * 1024 + c.val, by omega⟩

/-- The partial sums: element `b` is the loss of all rows against block `b`. -/
def partials (A : FVec Ideal S4096x128 .f32) (la : IVec S4096 32) (B : FVec Ideal S4096x128 .f32) (lb : IVec S4096 32) : FVec Ideal S4x1x1 .f32 :=
  fun j => ∑ c : Fin 1024, ∑ i : Fin 4096, pair A la B lb i (col (j 0) c)

variable (m : (ℓ : Loc nD τ sig) → Buf (Elt Ideal) ℓ) (c : Dev nD)

/-- The four argument arrays. -/
abbrev arg0 : FVec Ideal S4096x128 .f32 := m ((c.tc : Thread nD τ).loc main_arg0)
abbrev arg1 : IVec S4096 32 := m ((c.tc : Thread nD τ).loc main_arg1)
abbrev arg2 : FVec Ideal S4096x128 .f32 := m ((c.tc : Thread nD τ).loc main_arg2)
abbrev arg3 : IVec S4096 32 := m ((c.tc : Thread nD τ).loc main_arg3)

/-- Where each window's block lies at a grid point. -/
theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = 0 ∧ win0_3.index t (1 : Fin 2) = t.val :=
  (by decide +kernel : ∀ t : Fin grid0.N, _)
theorem index4 : ∀ t : Fin cfg0.N, win0_4.index t (0 : Fin 3) = t.val ∧ win0_4.index t (1 : Fin 3) = 0 ∧ win0_4.index t (2 : Fin 3) = 0 :=
  (by decide +kernel : ∀ t : Fin grid0.N, _)

/-- The point `t` as a block number. -/
abbrev blockOf (t : Fin cfg0.N) : Fin 4 := t.cast (by decide : cfg0.N = 4)

/-- The two label arrays as the region finds them: the arguments, reshaped to a column and to a row. -/
theorem entry_labels (i : Fin 4096) : V m c main_call0_v0 (ix2 i 0) = arg1 m c (ix1 i) := by
  simp only [V, V0, hostOps0, List.flatten_cons, List.flatten_nil, List.append_nil]
  after_results
  pointwise
theorem entry_cols (j : Fin 4096) : V m c main_call0_v1 (ix2 0 j) = arg3 m c (ix1 j) := by
  simp only [V, V0, hostOps0, List.flatten_cons, List.flatten_nil, List.append_nil]
  after_results
  pointwise

/-- The input blocks at a point, at an index: all rows and their labels, and the block's own columns and their labels. -/
theorem iblk0_apply (t : Fin cfg0.N) (i : Fin 4096) (d : Fin 128) : iblk m c 0 t (ix2 i d) = arg0 m c (ix2 i d) := by
  obtain ⟨e0, e1⟩ := index0 t
  refine Eq.trans ?_ (congrFun (V_main_arg0 m c) _)
  refine congrArg (V m c main_arg0) (funext fun a => Fin.ext ?_)
  match a with
  | ⟨0, _⟩ => show win0_0.index t (0 : Fin 2) * 4096 + 1 * i.val = i.val; omega
  | ⟨1, _⟩ => show win0_0.index t (1 : Fin 2) * 128 + 1 * d.val = d.val; omega
theorem iblk1_apply (t : Fin cfg0.N) (i : Fin 4096) : iblk m c 1 t (ix2 i 0) = arg1 m c (ix1 i) := by
  obtain ⟨e0, e1⟩ := index1 t
  rw [← entry_labels m c]
  refine congrArg (V m c main_call0_v0) (funext fun a => Fin.ext ?_)
  match a with
  | ⟨0, _⟩ => show win0_1.index t (0 : Fin 2) * 4096 + 1 * i.val = i.val; omega
  | ⟨1, _⟩ => show win0_1.index t (1 : Fin 2) * 1 + 1 * 0 = 0; omega
theorem iblk2_apply (t : Fin cfg0.N) (k : Fin 1024) (d : Fin 128) : iblk m c 2 t (ix2 k d) = arg2 m c (ix2 (col (blockOf t) k) d) := by
  obtain ⟨e0, e1⟩ := index2 t
  refine Eq.trans ?_ (congrFun (V_main_arg2 m c) _)
  refine congrArg (V m c main_arg2) (funext fun a => Fin.ext ?_)
  match a with
  | ⟨0, _⟩ => show win0_2.index t (0 : Fin 2) * 1024 + 1 * k.val = t.val * 1024 + k.val; omega
  | ⟨1, _⟩ => show win0_2.index t (1 : Fin 2) * 128 + 1 * d.val = d.val; omega
theorem iblk3_apply (t : Fin cfg0.N) (k : Fin 1024) : iblk m c 3 t (ix2 0 k) = arg3 m c (ix1 (col (blockOf t) k)) := by
  obtain ⟨e0, e1⟩ := index3 t
  rw [← entry_cols m c]
  refine congrArg (V m c main_call0_v1) (funext fun a => Fin.ext ?_)
  match a with
  | ⟨0, _⟩ => show win0_3.index t (0 : Fin 2) * 1 + 1 * 0 = 0; omega
  | ⟨1, _⟩ => show win0_3.index t (1 : Fin 2) * 1024 + 1 * k.val = t.val * 1024 + k.val; omega

/-- The output block's one element lies at the point's own place of the array. -/
theorem emb4 (t : Fin cfg0.N) (y : S1x1x1.Idx) : ((cfg0.win 4).blk t).view.emb y = ix3 (blockOf t) 0 0 := by
  obtain ⟨e0, e1, e2⟩ := index4 t
  have h0 : (y 0).val < 1 := (y 0).isLt
  have h1 : (y 1).val < 1 := (y 1).isLt
  have h2 : (y 2).val < 1 := (y 2).isLt
  funext a; apply Fin.ext
  match a with
  | ⟨0, _⟩ => show win0_4.index t (0 : Fin 3) * 1 + 1 * (y 0).val = t.val; omega
  | ⟨1, _⟩ => show win0_4.index t (1 : Fin 3) * 1 + 1 * (y 1).val = 0; omega
  | ⟨2, _⟩ => show win0_4.index t (2 : Fin 3) * 1 + 1 * (y 2).val = 0; omega

/-- What a point writes back is its block of the partial sums. -/
theorem flushed4 (t : Fin cfg0.N) : (dats m 0 c).flushed 4 t
    = ((cfg0.win 4).blk t).view.read (Elt Ideal) (partials (arg0 m c) (arg1 m c) (arg2 m c) (arg3 m c)) := by
  show (cfg0.win 4).cut (grid0.coords t) ((dats m 0 c).after 4 t) = _
  rw [after0_4]
  funext y
  show out0_4 (iblk m c 0 t) (iblk m c 1 t) (iblk m c 2 t) (iblk m c 3 t) _
    = partials (arg0 m c) (arg1 m c) (arg2 m c) (arg3 m c) (((cfg0.win 4).blk t).view.emb y)
  rw [emb4, out_value]
  refine Finset.sum_congr rfl fun k _ => Finset.sum_congr rfl fun i _ => ?_
  rw [iblk1_apply, iblk3_apply]
  refine congrArg (cell _ _) (Finset.sum_congr rfl fun d _ => ?_)
  rw [iblk0_apply, iblk2_apply]
  rfl

/-- Every place of the array is some point's place. -/
theorem covered4 (j : S4x1x1.Idx) : ∃ t : Fin cfg0.N, (cfg0.win 4).flush t = true ∧ j ∈ ((cfg0.win 4).blk t).view.set := by
  refine ⟨(j 0).cast (by decide : 4 = cfg0.N), flush0_4 _, ?_⟩
  have h := ((cfg0.win 4).blk ((j 0).cast (by decide : 4 = cfg0.N))).view.emb_mem_set (fun a => ⟨0, match a with | ⟨0, _⟩ => Nat.one_pos | ⟨1, _⟩ => Nat.one_pos | ⟨2, _⟩ => Nat.one_pos⟩)
  rw [emb4] at h
  have e : j = ix3 (blockOf ((j 0).cast (by decide : 4 = cfg0.N))) 0 0 := by
    have h1 : (j 1).val < 1 := (j 1).isLt
    have h2 : (j 2).val < 1 := (j 2).isLt
    funext a; apply Fin.ext
    match a with
    | ⟨0, _⟩ => rfl
    | ⟨1, _⟩ => show (j 1).val = 0; omega
    | ⟨2, _⟩ => show (j 2).val = 0; omega
  rw [e]; exact h

/-- After the grid the array holds the partial sums. -/
theorem final4 : (dats m 0 c).arrAt 4 cfg0.N = partials (arg0 m c) (arg1 m c) (arg2 m c) (arg3 m c) :=
  (dats m 0 c).arrAt_eq_of_cover 4 _ (fun t _ => flushed4 m c t) covered4

end Cert.Loss

end
-- ==== Proof.KernelValue.lean ====
/- What the kernel's result holds: the sum of all pairs' terms, divided by the constant of the word `0x45800000`. -/
module

public import proofs.«01_k».proof.Proof.Array

@[expose] public section

set_option maxRecDepth 16384

noncomputable section

namespace Cert.Loss

open Idealize.ShloMosaic Idealize.ShloMosaic.TcCoe Cert.KernelIdeal Cert.KernelIdeal.Gen

/-- The columns of the four blocks are all the columns. -/
theorem sum_cols (f : Fin 4096 → EReal) : ∑ b : Fin 4, ∑ k : Fin 1024, f (col b k) = ∑ j : Fin 4096, f j := by
  rw [← Fintype.sum_prod_type' (fun (b : Fin 4) (k : Fin 1024) => f (col b k))]
  refine Fintype.sum_equiv (finProdFinEquiv : Fin 4 × Fin 1024 ≃ Fin 4096) _ _ fun x => congrArg f (Fin.ext ?_)
  show x.1.val * 1024 + x.2.val = x.2.val + 1024 * x.1.val
  omega

/-- The partial sums add up to the sum over all pairs. -/
theorem sum_partials (A : FVec Ideal S4096x128 .f32) (la : IVec S4096 32) (B : FVec Ideal S4096x128 .f32) (lb : IVec S4096 32) :
    ∑ b : Fin 4, ∑ u : Fin 1, ∑ v : Fin 1, partials A la B lb (ix3 b u v) = ∑ j : Fin 4096, ∑ i : Fin 4096, pair A la B lb i j := by
  simp only [Fin.sum_univ_one]
  exact sum_cols fun j => ∑ i : Fin 4096, pair A la B lb i j

variable (m : (ℓ : Loc nD τ sig) → Buf (Elt Ideal) ℓ) (c : Dev nD)

/-- The result buffer, after the host's own operations on the array, holds the loss. -/
theorem kernel_result (i : S_.Idx) :
    (Pipeline.afterTail₀ cfgs (dats m) 0 (V0 m) [hostOps1] c main_v0 : FVec Ideal S_ .f32) i
      = loss (arg0 m c) (arg1 m c) (arg2 m c) (arg3 m c) := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.devRef .tc main_call0_v2)
      = partials (arg0 m c) (arg1 m c) (arg2 m c) (arg3 m c) :=
    (Pipeline.withArrays_arr (cfgs 0).spec (by decide) c (V0 m c) (fun w => (dats m 0 c).arrAt w (cfgs 0).N) 4).trans (final4 m c)
  rw [e]
  show Host.divf (Host.reduceAdd (partials (arg0 m c) (arg1 m c) (arg2 m c) (arg3 m c)) (constant S_ .f32 0x00000000#32) reducesTo_S4x1x1_S_d0_1_2 h_S_)
    (constant S_ .f32 0x45800000#32) i = _
  pointwise
  exact congrArg (fun x => Ideal.div x _) (sum_partials _ _ _ _)

end Cert.Loss

end
-- ==== Proof.Equation.lean ====
/- The two ways of writing one pair's term agree: the kernel's choice of one of two terms by the labels, and the
   reference's sum of a masked positive and a masked negative term. -/
module

public import proofs.«01_k».proof.Proof.Step

@[expose] public section

noncomputable section

namespace Cert.Loss

open Idealize.ShloMosaic

/-- The threshold `eps` is a real number. -/
theorem eps_real : ∃ r : ℝ, eps = (r : EReal) := by
  simp only [eps, Ideal.ofBits, Ideal.ieee]
  rw [if_neg (by decide), if_neg (by decide)]
  exact ⟨_, rfl⟩

/-- `1 - s` exceeds a real number exactly when `s` falls below one minus that number; at the infinities as well. -/
theorem lt_one_sub (r : ℝ) (s : EReal) : (r : EReal) < 1 - s ↔ s < 1 - (r : EReal) := by
  induction s with
  | bot => simp [← EReal.coe_one, ← EReal.coe_sub, EReal.bot_lt_coe, EReal.coe_lt_top]
  | top => simp [← EReal.coe_one, ← EReal.coe_sub]
  | coe x =>
    rw [← EReal.coe_one, ← EReal.coe_sub, ← EReal.coe_sub, EReal.coe_lt_coe_iff, EReal.coe_lt_coe_iff]
    constructor <;> intro h <;> linarith

/-- The kernel's term of a pair is the reference's positive term plus its negative term. -/
theorem cell_eq_add (l l' : BitVec 32) (s : EReal) :
    cell l l' s = Scalar.select (IntOp.andi (IntOp.cmpi .eq l l') (BitVec.ofBool (decide (s < 1 - eps)))) (1 - s) 0
      + Scalar.select (IntOp.andi (~~~IntOp.cmpi .eq l l') (BitVec.ofBool (decide (half < s)))) s 0 := by
  obtain ⟨r, hr⟩ := eps_real
  have h : eps < 1 - s ↔ s < 1 - eps := by rw [hr]; exact lt_one_sub r s
  simp only [cell, cmpi_eq_ite, h, Scalar.select, IntOp.andi]
  by_cases e : l = l' <;> by_cases p : s < 1 - eps <;> by_cases n : half < s <;> simp [e, p, n]

end Cert.Loss

end
-- ==== Proof.RefValue.lean ====
/- What the reference's result holds, as a function of the argument arrays. -/
module

public import proofs.«01_k».proof.Proof.Gen.ReferenceIdeal.Read
public import proofs.«01_k».proof.Proof.Equation
public import proofs.«01_k».proof.Proof.Loss
public import Idealize.ShloMosaic.Lib.Pointwise

@[expose] public section

noncomputable section

namespace Cert.Loss

open Idealize.ShloMosaic Cert.ReferenceIdeal Cert.ReferenceIdeal.Read

variable (A : FVec Ideal S4096x128 .f32) (la : IVec S4096 32) (B : FVec Ideal S4096x128 .f32) (lb : IVec S4096 32)

/-- The reference's result is the loss: its two masked sums, over rows and then columns, are the one sum of the pairs' terms. -/
theorem ref_result (k : S_.Idx) : val_main_v22 (F := Ideal) A la B lb k = loss A la B lb := by
  have z : id (constant (F := Ideal) S_ .f32 0x00000000#32) ix0 = (0 : EReal) := by
    show constant (F := Ideal) S_ .f32 0x00000000#32 ix0 = (0 : EReal)
    pointwise
  have c : ∑ j : Fin 4096, ∑ i : Fin 4096, pair A la B lb i j = ∑ i : Fin 4096, ∑ j : Fin 4096, pair A la B lb i j := Finset.sum_comm
  rw [← val_main_v22_eq]
  pointwise
  rw [z, loss, c, ← Finset.sum_add_distrib]
  refine congrArg (fun x => Ideal.div x _) (Finset.sum_congr rfl fun i _ => ?_)
  rw [← Finset.sum_add_distrib]
  exact Finset.sum_congr rfl fun j _ => (cell_eq_add _ _ _).symm

end Cert.Loss

end
-- ==== Proof.lean ====
/- The certificate: the frames of the kernel and of its idealization, the frame of the reference, and the equation between
   the kernel's result and the reference's, each from the files under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelValue
public import proofs.«01_k».proof.Proof.RefValue
public import Idealize.ShloMosaic.Adequacy
public import Idealize.ShloMosaic.Init
public import Idealize.ShloMosaic.Lib.Claim

@[expose] public section

noncomputable section

namespace Cert.Proof

open Idealize.ShloMosaic Idealize.SL.Sem

/-- The reference runs to an end, leaves its arguments as they were, and leaves every semaphore counter at zero (it declares none). -/
theorem reference_frame : Cert.quiescent_ReferenceIdeal (hReferenceIdeal := Cert.ReferenceIdeal.Gen.facts) := by
  intro m g _
  refine (θ_run Cert.ReferenceIdeal.defs _ _).mono (fun r h => ⟨fun c => (h c).2, ?_⟩) (Cert.ReferenceIdeal.Value.run (F := Ideal) m g)
  exact sem_eq_zero_of_no_sems (by decide) r.2

/-- The kernel's result and the reference's are the same extended real: both are the loss of the arguments. -/
theorem same_result : Cert.algebraic_KernelIdeal_ReferenceIdeal (hKernelIdeal := Cert.KernelIdeal.Gen.facts) (hReferenceIdeal := Cert.ReferenceIdeal.Gen.facts) := by
  pair_intro
  · run_from Cert.KernelIdeal.Gen.run_main m g
    · exact Cert.KernelIdeal.Gen.W_main_arg1 m _ _
    · exact Cert.KernelIdeal.Gen.W_main_arg3 m _ _
  · run_from Cert.ReferenceIdeal.Value.run m' g'
    exact (Cert.ReferenceIdeal.Read.val_main_v22_eq (F := Ideal) (Cert.Loss.arg0 m c) (Cert.Loss.arg1 m c) (Cert.Loss.arg2 m c) (Cert.Loss.arg3 m c)).trans
      (funext fun i => (Cert.Loss.ref_result _ _ _ _ i).trans (Cert.Loss.kernel_result m c i).symm)

/-- Everything the certificate claims. -/
theorem claim : Cert.Claim :=
  ⟨Cert.Kernel.Gen.facts, Cert.KernelIdeal.Gen.facts, Cert.ReferenceIdeal.Gen.facts,
    fun m g _ => Cert.Kernel.Gen.frame m g,
    fun m g _ => Cert.KernelIdeal.Gen.frame m g,
    reference_frame, trivial, same_result⟩

end Cert.Proof

end
